-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S4x2048x32 : Shape := ⟨3, ![4, 2048, 32]⟩
abbrev S32x64 : Shape := ⟨2, ![32, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S16x2048x768 : Shape := ⟨3, ![16, 2048, 768]⟩
abbrev S32x768 : Shape := ⟨2, ![32, 768]⟩
abbrev S768x768 : Shape := ⟨2, ![768, 768]⟩
abbrev S768 : Shape := ⟨1, ![768]⟩
abbrev S768x720 : Shape := ⟨2, ![768, 720]⟩
abbrev S720 : Shape := ⟨1, ![720]⟩
abbrev S_ : Shape := ⟨0, ![]⟩

class Facts : Prop where
  bcast_S_S32x64 : S_.BroadcastsInDim S32x64 (![] : Fin 0 → Fin S32x64.rank)
  bcast_S_S64x128 : S_.BroadcastsInDim S64x128 (![] : Fin 0 → Fin S64x128.rank)
  bcast_S_S128 : S_.BroadcastsInDim S128 (![] : Fin 0 → Fin S128.rank)
  bcast_S_S128x16 : S_.BroadcastsInDim S128x16 (![] : Fin 0 → Fin S128x16.rank)
  bcast_S_S16 : S_.BroadcastsInDim S16 (![] : Fin 0 → Fin S16.rank)
  bcast_S_S16x2048x768 : S_.BroadcastsInDim S16x2048x768 (![] : Fin 0 → Fin S16x2048x768.rank)

variable [Facts]

def fn {F : FTy → Type} [FloatOps F] (main_arg0 : FVec F S4x2048x32 .f32) (main_arg1 : FVec F S32x64 .f32) (main_arg2 : FVec F S64x128 .f32) (main_arg3 : FVec F S128 .f32) (main_arg4 : FVec F S128x16 .f32) (main_arg5 : FVec F S16 .f32) (main_arg6 : FVec F S16x2048x768 .f32) (main_arg7 : FVec F S32x768 .f32) (main_arg8 : FVec F S768x768 .f32) (main_arg9 : FVec F S768 .f32) (main_arg10 : FVec F S768x768 .f32) (main_arg11 : FVec F S768 .f32) (main_arg12 : FVec F S768x720 .f32) (main_arg13 : FVec F S720 .f32) : IVec S32x64 1 × IVec S64x128 1 × IVec S128 1 × IVec S128x16 1 × IVec S16 1 × IVec S16x2048x768 1 :=
  let main_v0 : FVec F S32x64 .f32 := Host.absf main_arg1
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S64x128 .f32 := Host.absf main_arg2
  let main_cst_0 : FVec F S_ .f32 := constant S_ .f32 0x7F800000#32
  let main_v4 : FVec F S64x128 .f32 := broadcastInDim S64x128 ![] bcast_S_S64x128 main_cst_0
  let main_v5 : IVec S64x128 1 := cmpf .olt main_v3 main_v4
  let main_v6 : FVec F S128 .f32 := Host.absf main_arg3
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_v12 : FVec F S16 .f32 := Host.absf main_arg5
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S16x2048x768 .f32 := Host.absf main_arg6
  let main_cst_4 : FVec F S_ .f32 := constant S_ .f32 0x7F800000#32
  let main_v16 : FVec F S16x2048x768 .f32 := broadcastInDim S16x2048x768 ![] bcast_S_S16x2048x768 main_cst_4
  let main_v17 : IVec S16x2048x768 1 := cmpf .olt main_v15 main_v16
  (main_v2, main_v5, main_v8, main_v11, main_v14, main_v17)
-- ==== Kernel.lean ====
abbrev S4x2048x32 : Shape := ⟨3, ![4, 2048, 32]⟩
abbrev S32x64 : Shape := ⟨2, ![32, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S16x2048x768 : Shape := ⟨3, ![16, 2048, 768]⟩
abbrev S32x768 : Shape := ⟨2, ![32, 768]⟩
abbrev S768x768 : Shape := ⟨2, ![768, 768]⟩
abbrev S768 : Shape := ⟨1, ![768]⟩
abbrev S768x720 : Shape := ⟨2, ![768, 720]⟩
abbrev S720 : Shape := ⟨1, ![720]⟩
abbrev S4x32x2048 : Shape := ⟨3, ![4, 32, 2048]⟩
abbrev S128x2048 : Shape := ⟨2, ![128, 2048]⟩
abbrev S1x128 : Shape := ⟨2, ![1, 128]⟩
abbrev S1x16 : Shape := ⟨2, ![1, 16]⟩
abbrev S1x768 : Shape := ⟨2, ![1, 768]⟩
abbrev S1x720 : Shape := ⟨2, ![1, 720]⟩
abbrev S128x720 : Shape := ⟨2, ![128, 720]⟩
abbrev S1x2048x768 : Shape := ⟨3, ![1, 2048, 768]⟩
abbrev S128x1 : Shape := ⟨2, ![128, 1]⟩
abbrev S128x768 : Shape := ⟨2, ![128, 768]⟩
abbrev S32x128 : Shape := ⟨2, ![32, 128]⟩
abbrev S32x16 : Shape := ⟨2, ![32, 16]⟩
abbrev S32 : Shape := ⟨1, ![32]⟩
abbrev S32x1 : Shape := ⟨2, ![32, 1]⟩
abbrev S2048x768 : Shape := ⟨2, ![2048, 768]⟩
abbrev S4x32x720 : Shape := ⟨3, ![4, 32, 720]⟩
abbrev S4x720x32 : Shape := ⟨3, ![4, 720, 32]⟩

abbrev nBuf : Space → Nat
  | .hbm => 24
  | .vmem => 21
  | .smem => 0
  | _ => 0

abbrev bufTy : (tb : Table) → Fin (tcTables nBuf tb) → BufTy
  | .hbm, ⟨0, _⟩ => ⟨S4x2048x32, .f32⟩
  | .hbm, ⟨1, _⟩ => ⟨S32x64, .f32⟩
  | .hbm, ⟨2, _⟩ => ⟨S64x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S16x2048x768, .f32⟩
  | .hbm, ⟨7, _⟩ => ⟨S32x768, .f32⟩
  | .hbm, ⟨8, _⟩ => ⟨S768x768, .f32⟩
  | .hbm, ⟨9, _⟩ => ⟨S768, .f32⟩
  | .hbm, ⟨10, _⟩ => ⟨S768x768, .f32⟩
  | .hbm, ⟨11, _⟩ => ⟨S768, .f32⟩
  | .hbm, ⟨12, _⟩ => ⟨S768x720, .f32⟩
  | .hbm, ⟨13, _⟩ => ⟨S720, .f32⟩
  | .hbm, ⟨14, _⟩ => ⟨S4x32x2048, .f32⟩
  | .hbm, ⟨15, _⟩ => ⟨S128x2048, .f32⟩
  | .hbm, ⟨16, _⟩ => ⟨S1x128, .f32⟩
  | .hbm, ⟨17, _⟩ => ⟨S1x16, .f32⟩
  | .hbm, ⟨18, _⟩ => ⟨S1x768, .f32⟩
  | .hbm, ⟨19, _⟩ => ⟨S1x768, .f32⟩
  | .hbm, ⟨20, _⟩ => ⟨S1x720, .f32⟩
  | .hbm, ⟨21, _⟩ => ⟨S128x720, .f32⟩
  | .hbm, ⟨22, _⟩ => ⟨S4x32x720, .f32⟩
  | .hbm, ⟨23, _⟩ => ⟨S4x720x32, .f32⟩
  | .local _ .vmem, ⟨0, _⟩ => ⟨S128x2048, .f32⟩
  | .local _ .vmem, ⟨1, _⟩ => ⟨S32x64, .f32⟩
  | .local _ .vmem, ⟨2, _⟩ => ⟨S64x128, .f32⟩
  | .local _ .vmem, ⟨3, _⟩ => ⟨S1x128, .f32⟩
  | .local _ .vmem, ⟨4, _⟩ => ⟨S128x16, .f32⟩
  | .local _ .vmem, ⟨5, _⟩ => ⟨S1x16, .f32⟩
  | .local _ .vmem, ⟨6, _⟩ => ⟨S1x2048x768, .f32⟩
  | .local _ .vmem, ⟨7, _⟩ => ⟨S1x2048x768, .f32⟩
  | .local _ .vmem, ⟨8, _⟩ => ⟨S32x768, .f32⟩
  | .local _ .vmem, ⟨9, _⟩ => ⟨S768x768, .f32⟩
  | .local _ .vmem, ⟨10, _⟩ => ⟨S1x768, .f32⟩
  | .local _ .vmem, ⟨11, _⟩ => ⟨S768x768, .f32⟩
  | .local _ .vmem, ⟨12, _⟩ => ⟨S1x768, .f32⟩
  | .local _ .vmem, ⟨13, _⟩ => ⟨S768x720, .f32⟩
  | .local _ .vmem, ⟨14, _⟩ => ⟨S1x720, .f32⟩
  | .local _ .vmem, ⟨15, _⟩ => ⟨S128x720, .f32⟩
  | .local _ .vmem, ⟨16, _⟩ => ⟨S128x2048, .f32⟩
  | .local _ .vmem, ⟨17, _⟩ => ⟨S128x1, .f32⟩
  | .local _ .vmem, ⟨18, _⟩ => ⟨S128x1, .f32⟩
  | .local _ .vmem, ⟨19, _⟩ => ⟨S128x16, .f32⟩
  | .local _ .vmem, ⟨20, _⟩ => ⟨S128x768, .f32⟩
  | _, _ => ⟨S4x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v22 : BitVec 1 := Scalar.cmpi .eq arg0 c15_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x720 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x720 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x720 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4x2048x32 : Shape := ⟨3, ![4, 2048, 32]⟩
abbrev S32x64 : Shape := ⟨2, ![32, 64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S16x2048x768 : Shape := ⟨3, ![16, 2048, 768]⟩
abbrev S32x768 : Shape := ⟨2, ![32, 768]⟩
abbrev S768x768 : Shape := ⟨2, ![768, 768]⟩
abbrev S768 : Shape := ⟨1, ![768]⟩
abbrev S768x720 : Shape := ⟨2, ![768, 720]⟩
abbrev S720 : Shape := ⟨1, ![720]⟩
abbrev S_ : Shape := ⟨0, ![]⟩
abbrev S4x32 : Shape := ⟨2, ![4, 32]⟩
abbrev S4x1x32 : Shape := ⟨3, ![4, 1, 32]⟩
abbrev S4x32x2048 : Shape := ⟨3, ![4, 32, 2048]⟩
abbrev S32x128 : Shape := ⟨2, ![32, 128]⟩
abbrev S1x128 : Shape := ⟨2, ![1, 128]⟩
abbrev S32x16 : Shape := ⟨2, ![32, 16]⟩
abbrev S1x16 : Shape := ⟨2, ![1, 16]⟩
abbrev S32 : Shape := ⟨1, ![32]⟩
abbrev S32x1 : Shape := ⟨2, ![32, 1]⟩
abbrev S32x2048x768 : Shape := ⟨3, ![32, 2048, 768]⟩
abbrev S32x768x4 : Shape := ⟨3, ![32, 768, 4]⟩
abbrev S4x32x768 : Shape := ⟨3, ![4, 32, 768]⟩
abbrev S1x32x768 : Shape := ⟨3, ![1, 32, 768]⟩
abbrev S1x1x768 : Shape := ⟨3, ![1, 1, 768]⟩
abbrev S4x32x720 : Shape := ⟨3, ![4, 32, 720]⟩
abbrev S1x1x720 : Shape := ⟨3, ![1, 1, 720]⟩
abbrev S4x720x32 : Shape := ⟨3, ![4, 720, 32]⟩

abbrev nBuf : Space → Nat
  | .hbm => 105
  | .vmem => 0
  | .smem => 0
  | _ => 0

abbrev bufTy : (tb : Table) → Fin (tcTables nBuf tb) → BufTy
  | .hbm, ⟨0, _⟩ => ⟨S4x2048x32, .f32⟩
  | .hbm, ⟨1, _⟩ => ⟨S32x64, .f32⟩
  | .hbm, ⟨2, _⟩ => ⟨S64x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S16x2048x768, .f32⟩
  | .hbm, ⟨7, _⟩ => ⟨S32x768, .f32⟩
  | .hbm, ⟨8, _⟩ => ⟨S768x768, .f32⟩
  | .hbm, ⟨9, _⟩ => ⟨S768, .f32⟩
  | .hbm, ⟨10, _⟩ => ⟨S768x768, .f32⟩
  | .hbm, ⟨11, _⟩ => ⟨S768, .f32⟩
  | .hbm, ⟨12, _⟩ => ⟨S768x720, .f32⟩
  | .hbm, ⟨13, _⟩ => ⟨S720, .f32⟩
  | .hbm, ⟨14, _⟩ => ⟨S_, .f32⟩
  | .hbm, ⟨15, _⟩ => ⟨S4x32, .f32⟩
  | .hbm, ⟨16, _⟩ => ⟨S4x1x32, .f32⟩
  | .hbm, ⟨17, _⟩ => ⟨S_, .f32⟩
  | .hbm, ⟨18, _⟩ => ⟨S4x1x32, .f32⟩
  | .hbm, ⟨19, _⟩ => ⟨S4x1x32, .f32⟩
  | .hbm, ⟨20, _⟩ => ⟨S_, .i32⟩
  | .hbm, ⟨21, _⟩ => ⟨S_, .f32⟩
  | .hbm, ⟨22, _⟩ => ⟨S4x32, .f32⟩
  | .hbm, ⟨23, _⟩ => ⟨S4x1x32, .f32⟩
  | .hbm, ⟨24, _⟩ => ⟨S_, .f32⟩
  | .hbm, ⟨25, _⟩ => ⟨S4x1x32, .f32⟩
  | .hbm, ⟨26, _⟩ => ⟨S4x1x32, .f32⟩
  | .hbm, ⟨27, _⟩ => ⟨S4x2048x32, .f32⟩
  | .hbm, ⟨28, _⟩ => ⟨S4x2048x32, .f32⟩
  | .hbm, ⟨29, _⟩ => ⟨S4x2048x32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x32, .f32⟩
  | .hbm, ⟨35, _⟩ => ⟨S4x1x32, .f32⟩
  | .hbm, ⟨36, _⟩ => ⟨S4x1x32, .f32⟩
  | .hbm, ⟨37, _⟩ => ⟨S4x1x32, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S4x1x32, .f32⟩
  | .hbm, ⟨43, _⟩ => ⟨S4x1x32, .f32⟩
  | .hbm, ⟨44, _⟩ => ⟨S4x1x32, .f32⟩
  | .hbm, ⟨45, _⟩ => ⟨S_, .f32⟩
  | .hbm, ⟨46, _⟩ => ⟨S4x1x32, .f32⟩
  | .hbm, ⟨47, _⟩ => ⟨S4x1x32, .f32⟩
  | .hbm, ⟨48, _⟩ => ⟨S4x2048x32, .f32⟩
  | .hbm, ⟨49, _⟩ => ⟨S4x2048x32, .f32⟩
  | .hbm, ⟨50, _⟩ => ⟨S4x2048x32, .f32⟩
  | .hbm, ⟨51, _⟩ => ⟨S4x2048x32, .f32⟩
  | .hbm, ⟨52, _⟩ => ⟨S4x32x2048, .f32⟩
  | .hbm, ⟨53, _⟩ => ⟨S32x128, .f32⟩
  | .hbm, ⟨54, _⟩ => ⟨S1x128, .f32⟩
  | .hbm, ⟨55, _⟩ => ⟨S32x128, .f32⟩
  | .hbm, ⟨56, _⟩ => ⟨S32x128, .f32⟩
  | .hbm, ⟨57, _⟩ => ⟨S_, .f32⟩
  | .hbm, ⟨58, _⟩ => ⟨S32x128, .f32⟩
  | .hbm, ⟨59, _⟩ => ⟨S32x128, .f32⟩
  | .hbm, ⟨60, _⟩ => ⟨S32x16, .f32⟩
  | .hbm, ⟨61, _⟩ => ⟨S1x16, .f32⟩
  | .hbm, ⟨62, _⟩ => ⟨S32x16, .f32⟩
  | .hbm, ⟨63, _⟩ => ⟨S32x16, .f32⟩
  | .hbm, ⟨64, _⟩ => ⟨S_, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S32x1, .f32⟩
  | .hbm, ⟨70, _⟩ => ⟨S32x16, .f32⟩
  | .hbm, ⟨71, _⟩ => ⟨S32x16, .f32⟩
  | .hbm, ⟨72, _⟩ => ⟨S32x16, .f32⟩
  | .hbm, ⟨73, _⟩ => ⟨S_, .f32⟩
  | .hbm, ⟨74, _⟩ => ⟨S32, .f32⟩
  | .hbm, ⟨75, _⟩ => ⟨S32x1, .f32⟩
  | .hbm, ⟨76, _⟩ => ⟨S32x16, .f32⟩
  | .hbm, ⟨77, _⟩ => ⟨S32x16, .f32⟩
  | .hbm, ⟨78, _⟩ => ⟨S32x2048x768, .f32⟩
  | .hbm, ⟨79, _⟩ => ⟨S32x768x4, .f32⟩
  | .hbm, ⟨80, _⟩ => ⟨S4x32x768, .f32⟩
  | .hbm, ⟨81, _⟩ => ⟨S1x32x768, .f32⟩
  | .hbm, ⟨82, _⟩ => ⟨S4x32x768, .f32⟩
  | .hbm, ⟨83, _⟩ => ⟨S4x32x768, .f32⟩
  | .hbm, ⟨84, _⟩ => ⟨S4x32x768, .f32⟩
  | .hbm, ⟨85, _⟩ => ⟨S1x1x768, .f32⟩
  | .hbm, ⟨86, _⟩ => ⟨S4x32x768, .f32⟩
  | .hbm, ⟨87, _⟩ => ⟨S4x32x768, .f32⟩
  | .hbm, ⟨88, _⟩ => ⟨S_, .f32⟩
  | .hbm, ⟨89, _⟩ => ⟨S4x32x768, .f32⟩
  | .hbm, ⟨90, _⟩ => ⟨S4x32x768, .f32⟩
  | .hbm, ⟨91, _⟩ => ⟨S4x32x768, .f32⟩
  | .hbm, ⟨92, _⟩ => ⟨S1x1x768, .f32⟩
  | .hbm, ⟨93, _⟩ => ⟨S4x32x768, .f32⟩
  | .hbm, ⟨94, _⟩ => ⟨S4x32x768, .f32⟩
  | .hbm, ⟨95, _⟩ => ⟨S4x32x768, .f32⟩
  | .hbm, ⟨96, _⟩ => ⟨S4x32x720, .f32⟩
  | .hbm, ⟨97, _⟩ => ⟨S1x1x720, .f32⟩
  | .hbm, ⟨98, _⟩ => ⟨S4x32x720, .f32⟩
  | .hbm, ⟨99, _⟩ => ⟨S4x32x720, .f32⟩
  | .hbm, ⟨100, _⟩ => ⟨S4x720x32, .f32⟩
  | .hbm, ⟨101, _⟩ => ⟨S4x720x32, .f32⟩
  | .hbm, ⟨102, _⟩ => ⟨S4x720x32, .f32⟩
  | .hbm, ⟨103, _⟩ => ⟨S4x720x32, .f32⟩
  | .hbm, ⟨104, _⟩ => ⟨S4x720x32, .f32⟩
  | _, _ => ⟨S4x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_v12 : Ref sig .tc := ⟨.hbm, 37, rfl⟩
abbrev main_call0_call0_cst_3 : Ref sig .tc := ⟨.hbm, 38, rfl⟩
abbrev main_call0_call0_v13 : Ref sig .tc := ⟨.hbm, 39, rfl⟩
abbrev main_call0_call0_cst_4 : Ref sig .tc := ⟨.hbm, 40, rfl⟩
abbrev main_call0_call0_call0_v0 : Ref sig .tc := ⟨.hbm, 41, rfl⟩
abbrev main_call0_call0_call0_v1 : Ref sig .tc := ⟨.hbm, 42, rfl⟩
abbrev main_call0_v0 : Ref sig .tc := ⟨.hbm, 43, rfl⟩
abbrev main_v4 : Ref sig .tc := ⟨.hbm, 44, rfl⟩
abbrev main_cst_1 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_call1_cst : Ref sig .tc := ⟨.hbm, 57, rfl⟩
abbrev main_call1_v0 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_cst_2 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_4 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_call2_cst : Ref sig .tc := ⟨.hbm, 88, rfl⟩
abbrev main_call2_v0 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩

abbrev nD : Nat := 1
abbrev τ : Topo := Topo.v7x

variable {F : FTy → Type} [FloatOps F]
-- ==== Proof.Points.lean ====
/- What the grid points of the idealized kernel leave behind, as the body's own payloads: the first point fills the
   five scratch buffers, every point adds one expert's term to the accumulator and leaves the other four alone, and
   the last point stores the result block. -/
module

public import proofs.«01_k».proof.Proof.Gen.KernelIdeal.Frame
public import Idealize.ShloMosaic.Lib.Pipeline.ValueKit.Acc
public import Idealize.ShloMosaic.Lib.Pipeline.ReadBack
public import Idealize.ShloMosaic.Lib.Tactic

@[expose] public section

noncomputable section

open Idealize.ShloMosaic Idealize.ShloMosaic.TcCoe Idealize.SL.Sem

namespace Cert.KernelIdeal.Points

open Cert.KernelIdeal Cert.KernelIdeal.Gen

variable {F : FTy → Type} [FloatOps F]
variable (m : (ℓ : Loc nD τ sig) → Buf (Elt F) ℓ)

/-- The first point leaves the normalised series in the first scratch buffer. -/
theorem first_xn (c : Dev nD) (t : Fin cfg0.N) (h0 : t.val % 16 = 0) (h1 : ¬t.val % 16 = 15) :
    (outsAt0 m c t.val t.isLt).2.1 = k0_pay11 (iblk m c 0 t) := by
  rw [outsAt0_A m c t h0 h1]; frame_out [read_unread_whole]

/-- The first point leaves the means in the second scratch buffer. -/
theorem first_mean (c : Dev nD) (t : Fin cfg0.N) (h0 : t.val % 16 = 0) (h1 : ¬t.val % 16 = 15) :
    (outsAt0 m c t.val t.isLt).2.2.1 = k0_pay9 (iblk m c 0 t) := by
  rw [outsAt0_A m c t h0 h1]; frame_out [read_unread_whole]

/-- The first point leaves the deviations in the third scratch buffer. -/
theorem first_std (c : Dev nD) (t : Fin cfg0.N) (h0 : t.val % 16 = 0) (h1 : ¬t.val % 16 = 15) :
    (outsAt0 m c t.val t.isLt).2.2.2.1 = k0_pay10 (iblk m c 0 t) := by
  rw [outsAt0_A m c t h0 h1]; frame_out [read_unread_whole]

/-- The first point leaves the gates in the fourth scratch buffer. -/
theorem first_gates (c : Dev nD) (t : Fin cfg0.N) (h0 : t.val % 16 = 0) (h1 : ¬t.val % 16 = 15) :
    (outsAt0 m c t.val t.isLt).2.2.2.2.1
      = k0_pay1 (k0_pay12 (iblk m c 1 t) (iblk m c 2 t) (iblk m c 3 t)) (iblk m c 4 t) (iblk m c 5 t) := by
  rw [outsAt0_A m c t h0 h1]; frame_out [read_unread_whole]

/-- The first point leaves zero plus its expert's term in the accumulator. -/
theorem first_acc (c : Dev nD) (t : Fin cfg0.N) (h0 : t.val % 16 = 0) (h1 : ¬t.val % 16 = 15) :
    (outsAt0 m c t.val t.isLt).2.2.2.2.2
      = k0_pay3 (grid0.coords t) (outsAt0 m c t.val t.isLt).2.2.2.2.1 (outsAt0 m c t.val t.isLt).2.1
          (iblk m c 6 t) k0_pay2 := by
  rw [first_gates m c t h0 h1, first_xn m c t h0 h1, outsAt0_A m c t h0 h1]; frame_out [read_unread_whole]

/-- Every later point leaves the normalised series, the means, the deviations and the gates as they were. -/
theorem later_kept (c : Dev nD) (t : Fin cfg0.N) (h0 : ¬t.val % 16 = 0) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1
    ∧ (outsAt0 m c t.val t.isLt).2.2.2.1 = (outsAt0 m c (t.val - 1) (Nat.lt_of_le_of_lt (Nat.sub_le _ _) t.isLt)).2.2.2.1
    ∧ (outsAt0 m c t.val t.isLt).2.2.2.2.1 = (outsAt0 m c (t.val - 1) (Nat.lt_of_le_of_lt (Nat.sub_le _ _) t.isLt)).2.2.2.2.1 := by
  by_cases h1 : t.val % 16 = 15
  · rw [outsAt0_C m c t h0 h1]; exact ⟨rfl, rfl, rfl, rfl⟩
  · rw [outsAt0_B m c t h0 h1]; exact ⟨rfl, rfl, rfl, rfl⟩

/-- Every later point adds its expert's term to the accumulator. -/
theorem later_acc (c : Dev nD) (t : Fin cfg0.N) (h0 : ¬t.val % 16 = 0) :
    (outsAt0 m c t.val t.isLt).2.2.2.2.2
      = k0_pay3 (grid0.coords t) (outsAt0 m c (t.val - 1) (Nat.lt_of_le_of_lt (Nat.sub_le _ _) t.isLt)).2.2.2.2.1
          (outsAt0 m c (t.val - 1) (Nat.lt_of_le_of_lt (Nat.sub_le _ _) t.isLt)).2.1 (iblk m c 6 t)
          (outsAt0 m c (t.val - 1) (Nat.lt_of_le_of_lt (Nat.sub_le _ _) t.isLt)).2.2.2.2.2 := by
  by_cases h1 : t.val % 16 = 15
  · rw [outsAt0_C m c t h0 h1]; frame_out [read_unread_whole]
  · rw [outsAt0_B m c t h0 h1]; frame_out [read_unread_whole]

/-- The last point stores the tail of the network, computed from the finished accumulator, as the result block. -/
theorem last_out (c : Dev nD) (t : Fin cfg0.N) (h0 : ¬t.val % 16 = 0) (h1 : t.val % 16 = 15) :
    (outsAt0 m c t.val t.isLt).1
      = k0_pay4 (iblk m c 7 t) (outsAt0 m c t.val t.isLt).2.2.2.2.2 (iblk m c 8 t) (iblk m c 9 t) (iblk m c 10 t)
          (iblk m c 11 t) (iblk m c 12 t) (iblk m c 13 t)
          (outsAt0 m c (t.val - 1) (Nat.lt_of_le_of_lt (Nat.sub_le _ _) t.isLt)).2.2.2.1
          (outsAt0 m c (t.val - 1) (Nat.lt_of_le_of_lt (Nat.sub_le _ _) t.isLt)).2.2.1 := by
  rw [later_acc m c t h0, outsAt0_C m c t h0 h1]; frame_out [read_unread_whole]

end Cert.KernelIdeal.Points
end
-- ==== Proof.Model.lean ====
module

public import Idealize.ShloMosaic.Lib.IdealHost

/-!
The mathematics both programs compute, one row at a time, on extended reals: the statistics and the
standardisation of a row of length 2048, the gate of the 16 experts, the mixture of the experts (once
with the experts outside and once with them inside) and the two-layer head that ends in the projection.
-/

@[expose] public section

noncomputable section

namespace Cert.Model

open Idealize.ShloMosaic
open scoped BigOperators

/-- The mean of a row. -/
def mean (r : Fin 2048 → EReal) : EReal :=
  Ideal.div (∑ l, r l) (Ideal.ofBits .f32 0x45000000#32)

/-- The standard deviation of a row (divisor 2047) plus the small constant. -/
def dev (r : Fin 2048 → EReal) : EReal :=
  Ideal.sqrt (Ideal.div (∑ l, (r l - mean r) * (r l - mean r)) (Ideal.ofBits .f32 0x44FFE000#32))
    + Ideal.ofBits .f32 0x358637BD#32

/-- The standardised row. -/
def norm (r : Fin 2048 → EReal) (l : Fin 2048) : EReal := Ideal.div (r l - mean r) (dev r)

/-- A dense layer at one output coordinate. -/
def dense {n k : ℕ} (x : Fin n → EReal) (w : Fin n → Fin k → EReal) (b : Fin k → EReal) (j : Fin k) : EReal :=
  ∑ i, x i * w i j + b j

/-- A dense layer followed by the positive part. -/
def relu {n k : ℕ} (x : Fin n → EReal) (w : Fin n → Fin k → EReal) (b : Fin k → EReal) (j : Fin k) : EReal :=
  max (dense x w b j) 0

/-- The largest of 16 logits. -/
def top (z : Fin 16 → EReal) : EReal := Finset.fold max (Ideal.ofBits .f32 0xFF800000#32) z Finset.univ

/-- The softmax of 16 logits. -/
def soft (z : Fin 16 → EReal) (e : Fin 16) : EReal :=
  Ideal.div (Ideal.exp (z e - top z)) (∑ e', Ideal.exp (z e' - top z))

/-- The router: the gate of expert `e` from a row of channel features. -/
def gate (ci : Fin 64 → EReal) (w1 : Fin 64 → Fin 128 → EReal) (b1 : Fin 128 → EReal)
    (w2 : Fin 128 → Fin 16 → EReal) (b2 : Fin 16 → EReal) (e : Fin 16) : EReal :=
  soft (dense (relu ci w1 b1) w2 b2) e

/-- The mixture with the experts outside: every expert's output weighed by its gate. -/
def mixOut (g : Fin 16 → EReal) (x : Fin 2048 → EReal) (w : Fin 16 → Fin 2048 → EReal) : EReal :=
  ∑ e, g e * ∑ l, x l * w e l

/-- The mixture with the experts inside: the weights mixed first, then applied to the row. -/
def mixIn (g : Fin 16 → EReal) (x : Fin 2048 → EReal) (w : Fin 16 → Fin 2048 → EReal) : EReal :=
  ∑ l, (∑ e, g e * w e l) * x l

/-- The head: two dense layers with a skip connection, the projection, and the return to the row's scale. -/
def head (emb : Fin 768 → EReal) (t1 : Fin 768 → Fin 768 → EReal) (b1 : Fin 768 → EReal)
    (t2 : Fin 768 → Fin 768 → EReal) (b2 : Fin 768 → EReal) (p : Fin 768 → Fin 720 → EReal)
    (pb : Fin 720 → EReal) (s μ : EReal) (o : Fin 720) : EReal :=
  dense (fun j => dense (relu emb t1 b1) t2 b2 j + emb j) p pb o * s + μ

/-- Being a real number. -/
def Real' (x : EReal) : Prop := ∃ y : ℝ, x = (y : EReal)

/-- What is neither infinity is real. -/
theorem real_of_ne {x : EReal} (h1 : x ≠ ⊤) (h2 : x ≠ ⊥) : Real' x := ⟨x.toReal, (EReal.coe_toReal h1 h2).symm⟩

/-- The sum of two reals is real. -/
theorem Real'.add {x y : EReal} : Real' x → Real' y → Real' (x + y) := by
  rintro ⟨a, rfl⟩ ⟨b, rfl⟩; exact ⟨a + b, (EReal.coe_add a b).symm⟩

/-- The difference of two reals is real. -/
theorem Real'.sub {x y : EReal} : Real' x → Real' y → Real' (x - y) := by
  rintro ⟨a, rfl⟩ ⟨b, rfl⟩; exact ⟨a - b, (EReal.coe_sub a b).symm⟩

/-- The product of two reals is real. -/
theorem Real'.mul {x y : EReal} : Real' x → Real' y → Real' (x * y) := by
  rintro ⟨a, rfl⟩ ⟨b, rfl⟩; exact ⟨a * b, (EReal.coe_mul a b).symm⟩

/-- Zero is real. -/
theorem Real'.zero : Real' 0 := ⟨0, rfl⟩

/-- The larger of two reals is real. -/
theorem Real'.max {x y : EReal} (hx : Real' x) (hy : Real' y) : Real' (max x y) := by
  rcases max_choice x y with h | h <;> rw [h] <;> assumption

/-- A finite sum of coerced reals is the coerced sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem Real'.sum {ι : Type*} (s : Finset ι) {f : ι → EReal} (h : ∀ i, Real' (f i)) : Real' (∑ i ∈ s, f i) := by
  choose g hg using h
  exact ⟨∑ i ∈ s, g i, by rw [← coe_sum]; exact Finset.sum_congr rfl fun i _ => hg i⟩

/-- A dense layer of reals is real. -/
theorem Real'.dense {n k : ℕ} {x : Fin n → EReal} {w : Fin n → Fin k → EReal} {b : Fin k → EReal}
    (hx : ∀ i, Real' (x i)) (hw : ∀ i j, Real' (w i j)) (hb : ∀ j, Real' (b j)) (j : Fin k) :
    Real' (dense x w b j) :=
  (Real'.sum _ fun i => (hx i).mul (hw i j)).add (hb j)

/-- Dividing a real by a non-zero real gives a real. -/
theorem Real'.div {x : EReal} (hx : Real' x) {y : ℝ} (hy : y ≠ 0) : Real' (Ideal.div x y) := by
  rw [Ideal.div_coe hy]; exact hx.mul ⟨_, rfl⟩

/-- The pattern `0x45000000` is 2048. -/
theorem c2048 : Ideal.ofBits .f32 0x45000000#32 = ((2048 : ℝ) : EReal) := by
  simp [Ideal.ofBits, Ideal.ieee, -EReal.coe_mul]; norm_num

/-- The pattern `0x44FFE000` is 2047. -/
theorem c2047 : Ideal.ofBits .f32 0x44FFE000#32 = ((2047 : ℝ) : EReal) := by
  simp [Ideal.ofBits, Ideal.ieee, -EReal.coe_mul]; norm_num

/-- The constant added to the deviation is a positive real. -/
theorem cEps : ∃ y : ℝ, 0 < y ∧ Ideal.ofBits .f32 0x358637BD#32 = (y : EReal) := by
  refine ⟨_, ?_, by simp [Ideal.ofBits, Ideal.ieee, -EReal.coe_mul]; rfl⟩
  norm_num

/-- The pattern `0xFF800000` is minus infinity. -/
theorem cBot : Ideal.ofBits .f32 0xFF800000#32 = (⊥ : EReal) := by
  simp [Ideal.ofBits, Ideal.ieee]

/-- The pattern `0x7F800000` is plus infinity. -/
theorem cTop : Ideal.ofBits .f32 0x7F800000#32 = (⊤ : EReal) := by
  simp [Ideal.ofBits, Ideal.ieee]

/-- The largest of real logits is real. -/
theorem top_real {z : Fin 16 → EReal} (h : ∀ e, Real' (z e)) : Real' (top z) := by
  have : top z = Finset.univ.sup z := by rw [top, cBot]; rfl
  rw [this]
  obtain ⟨e, _, he⟩ := Finset.exists_mem_eq_sup Finset.univ Finset.univ_nonempty z
  rw [he]; exact h e

/-- The softmax of real logits is real. -/
theorem soft_real {z : Fin 16 → EReal} (h : ∀ e, Real' (z e)) (e : Fin 16) : Real' (soft z e) := by
  have hd : ∀ e, Real' (z e - top z) := fun e => (h e).sub (top_real h)
  choose d hd using hd
  have hs : (∑ e', Ideal.exp (z e' - top z)) = ((∑ e', Real.exp (d e') : ℝ) : EReal) := by
    rw [← coe_sum]; exact Finset.sum_congr rfl fun i _ => by rw [hd i, Ideal.exp_coe]
  have hpos : (0 : ℝ) < ∑ e', Real.exp (d e') :=
    Finset.sum_pos (fun i _ => Real.exp_pos _) Finset.univ_nonempty
  rw [soft, hs]
  refine Real'.div ?_ hpos.ne'
  rw [hd e, Ideal.exp_coe]; exact ⟨_, rfl⟩

/-- The gate is real when the router's inputs are. -/
theorem gate_real {ci : Fin 64 → EReal} {w1 : Fin 64 → Fin 128 → EReal} {b1 : Fin 128 → EReal}
    {w2 : Fin 128 → Fin 16 → EReal} {b2 : Fin 16 → EReal} (h0 : ∀ i, Real' (ci i)) (h1 : ∀ i j, Real' (w1 i j))
    (h2 : ∀ j, Real' (b1 j)) (h3 : ∀ i j, Real' (w2 i j)) (h4 : ∀ j, Real' (b2 j)) (e : Fin 16) :
    Real' (gate ci w1 b1 w2 b2 e) :=
  soft_real (fun e => Real'.dense (fun k => (Real'.dense h0 h1 h2 k).max Real'.zero) h3 h4 e) e

/-- A sum with an infinite summand is infinite. -/
theorem real_of_sum_real {r : Fin 2048 → EReal} (h : Real' (∑ l, r l)) (l : Fin 2048) : Real' (r l) := by
  obtain ⟨y, hy⟩ := h
  rw [← Finset.add_sum_erase _ _ (Finset.mem_univ l)] at hy
  generalize (∑ x ∈ Finset.univ.erase l, r x) = s at hy
  generalize r l = a at hy ⊢
  induction a using EReal.rec with
  | bot => simp at hy
  | coe a => exact ⟨a, rfl⟩
  | top =>
    induction s using EReal.rec with
    | bot => simp at hy
    | coe s => simp at hy
    | top => simp at hy

/-- The standardised row is always real: a row with an infinite entry has an infinite deviation, which
sends every entry to zero. -/
theorem norm_real (r : Fin 2048 → EReal) (l : Fin 2048) : Real' (norm r l) := by
  obtain ⟨ε, hε, hc⟩ := cEps
  by_cases hm : Real' (mean r)
  · have hs : Real' (∑ l, r l) := by
      rw [mean, c2048, Ideal.div_coe (by norm_num)] at hm
      generalize (∑ l, r l) = s at hm ⊢
      obtain ⟨y, hy⟩ := hm
      induction s using EReal.rec with
      | bot => rw [EReal.bot_mul_coe_of_pos (by norm_num)] at hy; simp at hy
      | coe s => exact ⟨s, rfl⟩
      | top => rw [EReal.top_mul_coe_of_pos (by norm_num)] at hy; simp at hy
    have hd : ∀ l, Real' (r l - mean r) := fun l => (real_of_sum_real hs l).sub hm
    choose d hd' using hd
    have hsum : (∑ l, (r l - mean r) * (r l - mean r)) = ((∑ l, d l * d l : ℝ) : EReal) := by
      rw [← coe_sum]; exact Finset.sum_congr rfl fun i _ => by rw [hd' i, EReal.coe_mul]
    have hnn : (0 : ℝ) ≤ (∑ l, d l * d l) * (1 / 2047) :=
      mul_nonneg (Finset.sum_nonneg fun i _ => mul_self_nonneg _) (by norm_num)
    have hdev : dev r = ((Real.sqrt ((∑ l, d l * d l) * (1 / 2047)) + ε : ℝ) : EReal) := by
      rw [dev, hsum, c2047, hc, Ideal.div_coe (by norm_num), ← EReal.coe_mul, Ideal.sqrt_coe,
        if_neg (not_lt.mpr hnn), EReal.coe_add]
    rw [norm, hdev, hd' l]
    exact Real'.div ⟨_, rfl⟩ (add_pos_of_nonneg_of_pos (Real.sqrt_nonneg _) hε).ne'
  · have hinf : ∀ l, (r l - mean r) * (r l - mean r) = ⊤ := by
      intro l
      have hm' : mean r = ⊤ ∨ mean r = ⊥ := by
        by_contra hh; rw [not_or] at hh; exact hm (real_of_ne hh.1 hh.2)
      generalize r l = a
      rcases hm' with h | h <;> rw [h] <;> induction a using EReal.rec <;> simp [sub_eq_add_neg]
    have hdev : dev r = ⊤ := by
      have hsum : (∑ l, (r l - mean r) * (r l - mean r)) = ⊤ := by
        rw [Finset.sum_congr rfl fun l _ => hinf l, ← Finset.add_sum_erase _ _ (Finset.mem_univ (0 : Fin 2048))]
        refine EReal.top_add_of_ne_bot ?_
        have : (0 : EReal) ≤ ∑ x ∈ Finset.univ.erase (0 : Fin 2048), (⊤ : EReal) :=
          Finset.sum_nonneg fun _ _ => le_top
        intro hb; rw [hb] at this; simp at this
      rw [dev, hsum, c2047, hc, Ideal.div_coe (by norm_num), EReal.top_mul_coe_of_pos (by norm_num),
        Ideal.sqrt_top, EReal.top_add_coe]
    rw [norm, hdev, Ideal.div, if_neg (by simp), EReal.inv_top, mul_zero]
    exact Real'.zero

/-- The two orders of mixing the experts agree on real gates, rows and weights. -/
theorem mixOut_eq_mixIn {g : Fin 16 → EReal} {x : Fin 2048 → EReal} {w : Fin 16 → Fin 2048 → EReal}
    (hg : ∀ e, Real' (g e)) (hx : ∀ l, Real' (x l)) (hw : ∀ e l, Real' (w e l)) : mixOut g x w = mixIn g x w := by
  choose g' hg' using hg
  choose x' hx' using hx
  choose w' hw' using hw
  simp only [mixOut, mixIn, hg', hx', hw', ← EReal.coe_mul, coe_sum]
  congr 1
  simp only [Finset.mul_sum, Finset.sum_mul]
  rw [Finset.sum_comm]
  exact Finset.sum_congr rfl fun l _ => Finset.sum_congr rfl fun e _ => by ring

end Cert.Model
-- ==== Proof.Payloads.lean ====
module

public import proofs.«01_k».proof.Proof.Gen.KernelIdeal.Skeleton
public import proofs.«01_k».proof.Proof.Model
public import Idealize.ShloMosaic.Lib.Pointwise

/-! The values the kernel's body stores, read at an index and stated by the row functions of `Model`. -/

@[expose] public section

set_option maxRecDepth 16384

noncomputable section

namespace Cert.KernelIdeal.Points

open Cert.KernelIdeal Cert.KernelIdeal.Gen Idealize.ShloMosaic Idealize.ShloMosaic.TcCoe Idealize.SL.Sem
open scoped BigOperators

/-- The channel of a row: the 128 rows are 4 samples of 32 channels. -/
def chan (r : Fin 128) : Fin 32 := ⟨r.val % 32, Nat.mod_lt _ (by decide)⟩

/-- The stored mean of row `r`. -/
theorem pay_mean (x : Vec Ideal S128x2048 .f32) (r : Fin 128) (l : Fin 1) :
    k0_pay9 x (ix2 r l) = Model.mean fun l => x (ix2 r l) := by
  pointwise [k0_pay9, k0_pay6, k0_pay5]
  rfl

/-- The stored deviation of row `r`. -/
theorem pay_dev (x : Vec Ideal S128x2048 .f32) (r : Fin 128) (l : Fin 1) :
    k0_pay10 x (ix2 r l) = Model.dev fun l => x (ix2 r l) := by
  pointwise [k0_pay10, k0_pay8, k0_pay7, k0_pay6, k0_pay5]
  rfl

/-- The stored standardised row `r`. -/
theorem pay_norm (x : Vec Ideal S128x2048 .f32) (r : Fin 128) (l : Fin 2048) :
    k0_pay11 x (ix2 r l) = Model.norm (fun l => x (ix2 r l)) l := by
  pointwise [k0_pay11, k0_pay8, k0_pay7, k0_pay6, k0_pay5]
  rfl

/-- The router's hidden layer. -/
theorem pay_hidden (x1 : Vec Ideal S32x64 .f32) (x2 : Vec Ideal S64x128 .f32) (x3 : Vec Ideal S1x128 .f32)
    (n : Fin 32) (k : Fin 128) :
    k0_pay12 x1 x2 x3 (ix2 n k) = Model.relu (fun c => x1 (ix2 n c)) (fun c k => x2 (ix2 c k)) (fun k => x3 (ix2 0 k)) k := by
  pointwise [k0_pay12]
  rfl

/-- The stored gates of row `r` are those of its channel. -/
theorem pay_gates (h : Vec Ideal S32x128 .f32) (x2 : Vec Ideal S128x16 .f32) (x3 : Vec Ideal S1x16 .f32)
    (r : Fin 128) (e : Fin 16) :
    k0_pay1 h x2 x3 (ix2 r e) = Model.soft
      (Model.dense (fun k => h (ix2 (chan r) k)) (fun k e => x2 (ix2 k e)) (fun e => x3 (ix2 0 e))) e := by
  pointwise [k0_pay1]
  have hr := r.isLt
  by_cases h1 : r.val < 32
  · simp only [h1, ↓reduceDIte]
    simp only [Model.soft, Model.top, Model.dense, show chan r = ⟨r.val, h1⟩ from Fin.ext (by simp only [chan]; omega)]
    rfl
  by_cases h2 : r.val - 32 < 32
  · simp only [h1, h2, ↓reduceDIte]
    simp only [Model.soft, Model.top, Model.dense, show chan r = ⟨r.val - 32, h2⟩ from Fin.ext (by simp only [chan]; omega)]
    rfl
  by_cases h3 : r.val - 32 - 32 < 32
  · simp only [h1, h2, h3, ↓reduceDIte]
    simp only [Model.soft, Model.top, Model.dense, show chan r = ⟨r.val - 32 - 32, h3⟩ from Fin.ext (by simp only [chan]; omega)]
    rfl
  · simp only [h1, h2, h3, ↓reduceDIte]
    simp only [Model.soft, Model.top, Model.dense, show chan r = ⟨r.val - 32 - 32 - 32, by omega⟩ from Fin.ext (by simp only [chan]; omega)]
    rfl

/-- The accumulator starts from zero. -/
theorem pay_zero (j : S128x768.Idx) : (k0_pay2 (F := Ideal)) j = 0 := by
  pointwise [k0_pay2]

/-- The accumulator's step: the gate of the point's expert times that expert's output. -/
theorem pay_step (i : grid0.Coords) (g : Vec Ideal S128x16 .f32) (xn : Vec Ideal S128x2048 .f32)
    (w : Vec Ideal S1x2048x768 .f32) (acc : Vec Ideal S128x768 .f32) (r : Fin 128) (o : Fin 768) (e : Fin 16)
    (he : (i 0).val = e.val) :
    k0_pay3 i g xn w acc (ix2 r o) = acc (ix2 r o) + g (ix2 r e) * ∑ l, xn (ix2 r l) * w (ix3 0 l o) := by
  pointwise [k0_pay3]
  congr 2
  rw [he]
  have hs : ∀ x : Fin 16, Scalar.select (IntOp.cmpi CmpIPredicate.eq (BitVec.ofNat 32 x.val) (BitVec.ofNat 32 e.val))
      (g (ix2 r x)) 0 = if x = e then g (ix2 r x) else 0 := by
    intro x
    have : (BitVec.ofNat 32 x.val = BitVec.ofNat 32 e.val) ↔ x = e := by
      constructor
      · intro h
        have := congrArg BitVec.toNat h
        simp only [BitVec.toNat_ofNat] at this
        exact Fin.ext (by omega)
      · rintro rfl; rfl
    by_cases hx : x = e
    · subst hx; simp [Scalar.select, IntOp.cmpi]
    · have hb : (BitVec.ofNat 32 x.val == BitVec.ofNat 32 e.val) = false := by
        rw [beq_eq_false_iff_ne]; exact fun h => hx (this.mp h)
      simp [Scalar.select, IntOp.cmpi, hb, hx]
  rw [Finset.sum_congr rfl fun x _ => hs x]
  simp

/-- The output of row `r`: the head of the accumulator plus the mixed bias of the row's channel. -/
theorem pay_head (b : Vec Ideal S32x768 .f32) (acc : Vec Ideal S128x768 .f32) (t1 : Vec Ideal S768x768 .f32)
    (b1 : Vec Ideal S1x768 .f32) (t2 : Vec Ideal S768x768 .f32) (b2 : Vec Ideal S1x768 .f32)
    (p : Vec Ideal S768x720 .f32) (pb : Vec Ideal S1x720 .f32) (s μ : Vec Ideal S128x1 .f32)
    (r : Fin 128) (o : Fin 720) :
    k0_pay4 b acc t1 b1 t2 b2 p pb s μ (ix2 r o) = Model.head (fun k => acc (ix2 r k) + b (ix2 (chan r) k))
      (fun i j => t1 (ix2 i j)) (fun j => b1 (ix2 0 j)) (fun i j => t2 (ix2 i j)) (fun j => b2 (ix2 0 j))
      (fun i j => p (ix2 i j)) (fun j => pb (ix2 0 j)) (s (ix2 r 0)) (μ (ix2 r 0)) o := by
  pointwise [k0_pay4]
  have hr := r.isLt
  by_cases h1 : r.val < 32
  · simp only [h1, ↓reduceDIte]
    rw [show chan r = ⟨r.val, h1⟩ from Fin.ext (by simp only [chan]; omega)]
    rfl
  by_cases h2 : r.val - 32 < 32
  · simp only [h1, h2, ↓reduceDIte]
    rw [show chan r = ⟨r.val - 32, h2⟩ from Fin.ext (by simp only [chan]; omega)]
    rfl
  by_cases h3 : r.val - 32 - 32 < 32
  · simp only [h1, h2, h3, ↓reduceDIte]
    rw [show chan r = ⟨r.val - 32 - 32, h3⟩ from Fin.ext (by simp only [chan]; omega)]
    rfl
  · simp only [h1, h2, h3, ↓reduceDIte]
    rw [show chan r = ⟨r.val - 32 - 32 - 32, by omega⟩ from Fin.ext (by simp only [chan]; omega)]
    rfl

end Cert.KernelIdeal.Points

end
-- ==== Proof.KernelPoints.lean ====
module

public import proofs.«01_k».proof.Proof.Points
public import proofs.«01_k».proof.Proof.Payloads
public import Idealize.ShloMosaic.Lib.Pipeline.ValueKit
public import Idealize.ShloMosaic.Lib.StableHlo.ReadAt

/-! The arrays the kernel's region reads, at an index of the arguments, and the five scratch buffers after every grid
point by the row functions of `Model`. -/

@[expose] public section

set_option maxRecDepth 16384

noncomputable section

open Idealize.ShloMosaic Idealize.ShloMosaic.TcCoe Idealize.SL.Sem
open scoped BigOperators

namespace Cert.KernelIdeal.Points

open Cert.KernelIdeal Cert.KernelIdeal.Gen

variable (m : (ℓ : Loc nD τ sig) → Buf (Elt Ideal) ℓ)

/-- The sample of a row. -/
def samp (r : Fin 128) : Fin 4 := ⟨r.val / 32, by omega⟩

/-- Every window but the experts' weights and no other stays at block zero; the weights' window is at the point's slab. -/
theorem idx : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_6.index t = ![t.val, 0, 0] := by
  decide +kernel

/-- The grid has one axis, the expert. -/
theorem coord : ∀ t : Fin grid0.N, (grid0.coords t 0).val = t.val := by decide +kernel

/-- The series the region reads: row `r` is channel `r % 32` of sample `r / 32`. -/
theorem V_x (c : Dev nD) (r : Fin 128) (l : Fin 2048) :
    V m c main_v1 (ix2 r l) = m ((c.tc : Thread nD τ).loc main_arg0) (ix3 (samp r) l (chan r)) := by
  unfold V V0
  after_reads_at
  rfl

/-- The row that the region reads for argument 3 is the argument. -/
theorem V_b1 (c : Dev nD) (k : Fin 128) :
    V m c main_v2 (ix2 0 k) = m ((c.tc : Thread nD τ).loc main_arg3) (ix1 k) := by
  unfold V V0
  after_reads_at

/-- The row that the region reads for argument 5 is the argument. -/
theorem V_b2 (c : Dev nD) (k : Fin 16) :
    V m c main_v3 (ix2 0 k) = m ((c.tc : Thread nD τ).loc main_arg5) (ix1 k) := by
  unfold V V0
  after_reads_at

/-- The row that the region reads for argument 9 is the argument. -/
theorem V_t1b (c : Dev nD) (k : Fin 768) :
    V m c main_v4 (ix2 0 k) = m ((c.tc : Thread nD τ).loc main_arg9) (ix1 k) := by
  unfold V V0
  after_reads_at

/-- The row that the region reads for argument 11 is the argument. -/
theorem V_t2b (c : Dev nD) (k : Fin 768) :
    V m c main_v5 (ix2 0 k) = m ((c.tc : Thread nD τ).loc main_arg11) (ix1 k) := by
  unfold V V0
  after_reads_at

/-- The row that the region reads for argument 13 is the argument. -/
theorem V_pb (c : Dev nD) (k : Fin 720) :
    V m c main_v6 (ix2 0 k) = m ((c.tc : Thread nD τ).loc main_arg13) (ix1 k) := by
  unfold V V0
  after_reads_at

/-- Window 0 at every point: the series. -/
theorem blk0 (c : Dev nD) (t : Fin cfg0.N) (i : Fin 128) (j : Fin 2048) :
    (iblk m c 0 t : Vec Ideal S128x2048 .f32) (ix2 i j) = m ((c.tc : Thread nD τ).loc main_arg0) (ix3 (samp i) j (chan i)) := by
  rw [← V_x m c i j]
  blk_ext [iblk, idx t]

/-- Window 1 at every point: argument 1. -/
theorem blk1 (c : Dev nD) (t : Fin cfg0.N) (i : Fin 32) (j : Fin 64) :
    (iblk m c 1 t : Vec Ideal S32x64 .f32) (ix2 i j) = m ((c.tc : Thread nD τ).loc main_arg1) (ix2 i j) := by
  blk_ext [iblk, V, idx t]

/-- Window 2 at every point: argument 2. -/
theorem blk2 (c : Dev nD) (t : Fin cfg0.N) (i : Fin 64) (j : Fin 128) :
    (iblk m c 2 t : Vec Ideal S64x128 .f32) (ix2 i j) = m ((c.tc : Thread nD τ).loc main_arg2) (ix2 i j) := by
  blk_ext [iblk, V, idx t]

/-- Window 3 at every point: argument 3 as a row. -/
theorem blk3 (c : Dev nD) (t : Fin cfg0.N) (j : Fin 128) :
    (iblk m c 3 t : Vec Ideal S1x128 .f32) (ix2 0 j) = m ((c.tc : Thread nD τ).loc main_arg3) (ix1 j) := by
  rw [← V_b1 m c j]
  blk_ext [iblk, idx t]

/-- Window 4 at every point: argument 4. -/
theorem blk4 (c : Dev nD) (t : Fin cfg0.N) (i : Fin 128) (j : Fin 16) :
    (iblk m c 4 t : Vec Ideal S128x16 .f32) (ix2 i j) = m ((c.tc : Thread nD τ).loc main_arg4) (ix2 i j) := by
  blk_ext [iblk, V, idx t]

/-- Window 5 at every point: argument 5 as a row. -/
theorem blk5 (c : Dev nD) (t : Fin cfg0.N) (j : Fin 16) :
    (iblk m c 5 t : Vec Ideal S1x16 .f32) (ix2 0 j) = m ((c.tc : Thread nD τ).loc main_arg5) (ix1 j) := by
  rw [← V_b2 m c j]
  blk_ext [iblk, idx t]

/-- Window 6 at point `t`: expert `t`'s weights. -/
theorem blk6 (c : Dev nD) (t : Fin cfg0.N) (e : Fin 16) (he : t.val = e.val) (i : Fin 2048) (j : Fin 768) :
    (iblk m c 6 t : Vec Ideal S1x2048x768 .f32) (ix3 0 i j) = m ((c.tc : Thread nD τ).loc main_arg6) (ix3 e i j) := by
  blk_ext [iblk, V, idx t]

/-- Window 7 at every point: argument 7. -/
theorem blk7 (c : Dev nD) (t : Fin cfg0.N) (i : Fin 32) (j : Fin 768) :
    (iblk m c 7 t : Vec Ideal S32x768 .f32) (ix2 i j) = m ((c.tc : Thread nD τ).loc main_arg7) (ix2 i j) := by
  blk_ext [iblk, V, idx t]

/-- Window 8 at every point: argument 8. -/
theorem blk8 (c : Dev nD) (t : Fin cfg0.N) (i : Fin 768) (j : Fin 768) :
    (iblk m c 8 t : Vec Ideal S768x768 .f32) (ix2 i j) = m ((c.tc : Thread nD τ).loc main_arg8) (ix2 i j) := by
  blk_ext [iblk, V, idx t]

/-- Window 9 at every point: argument 9 as a row. -/
theorem blk9 (c : Dev nD) (t : Fin cfg0.N) (j : Fin 768) :
    (iblk m c 9 t : Vec Ideal S1x768 .f32) (ix2 0 j) = m ((c.tc : Thread nD τ).loc main_arg9) (ix1 j) := by
  rw [← V_t1b m c j]
  blk_ext [iblk, idx t]

/-- Window 10 at every point: argument 10. -/
theorem blk10 (c : Dev nD) (t : Fin cfg0.N) (i : Fin 768) (j : Fin 768) :
    (iblk m c 10 t : Vec Ideal S768x768 .f32) (ix2 i j) = m ((c.tc : Thread nD τ).loc main_arg10) (ix2 i j) := by
  blk_ext [iblk, V, idx t]

/-- Window 11 at every point: argument 11 as a row. -/
theorem blk11 (c : Dev nD) (t : Fin cfg0.N) (j : Fin 768) :
    (iblk m c 11 t : Vec Ideal S1x768 .f32) (ix2 0 j) = m ((c.tc : Thread nD τ).loc main_arg11) (ix1 j) := by
  rw [← V_t2b m c j]
  blk_ext [iblk, idx t]

/-- Window 12 at every point: argument 12. -/
theorem blk12 (c : Dev nD) (t : Fin cfg0.N) (i : Fin 768) (j : Fin 720) :
    (iblk m c 12 t : Vec Ideal S768x720 .f32) (ix2 i j) = m ((c.tc : Thread nD τ).loc main_arg12) (ix2 i j) := by
  blk_ext [iblk, V, idx t]

/-- Window 13 at every point: argument 13 as a row. -/
theorem blk13 (c : Dev nD) (t : Fin cfg0.N) (j : Fin 720) :
    (iblk m c 13 t : Vec Ideal S1x720 .f32) (ix2 0 j) = m ((c.tc : Thread nD τ).loc main_arg13) (ix1 j) := by
  rw [← V_pb m c j]
  blk_ext [iblk, idx t]

/-- Row `r` of the series. -/
def xrow (c : Dev nD) (r : Fin 128) : Fin 2048 → EReal := fun l => m ((c.tc : Thread nD τ).loc main_arg0) (ix3 (samp r) l (chan r))

/-- The gates of channel `n`. -/
def gates (c : Dev nD) (n : Fin 32) : Fin 16 → EReal :=
  Model.gate (fun i => m ((c.tc : Thread nD τ).loc main_arg1) (ix2 n i)) (fun i k => m ((c.tc : Thread nD τ).loc main_arg2) (ix2 i k)) (fun k => m ((c.tc : Thread nD τ).loc main_arg3) (ix1 k))
    (fun k e => m ((c.tc : Thread nD τ).loc main_arg4) (ix2 k e)) (fun e => m ((c.tc : Thread nD τ).loc main_arg5) (ix1 e))

/-- The term that expert `n` adds to the accumulator (zero past the last expert). -/
def term (c : Dev nD) (r : Fin 128) (o : Fin 768) (n : ℕ) : EReal :=
  if h : n < 16 then gates m c (chan r) ⟨n, h⟩ * ∑ l, Model.norm (xrow m c r) l * m ((c.tc : Thread nD τ).loc main_arg6) (ix3 ⟨n, h⟩ l o) else 0

/-- The scratch buffers after point `n`: the standardised rows, the means, the deviations, the gates, and the sum of the
    first `n + 1` experts' terms. -/
structure After (c : Dev nD) (n : ℕ) (h : n < cfg0.N) : Prop where
  xn : ∀ r l, (outsAt0 m c n h).2.1 (ix2 r l) = Model.norm (xrow m c r) l
  mean : ∀ r l, (outsAt0 m c n h).2.2.1 (ix2 r l) = Model.mean (xrow m c r)
  dev : ∀ r l, (outsAt0 m c n h).2.2.2.1 (ix2 r l) = Model.dev (xrow m c r)
  gate : ∀ r e, (outsAt0 m c n h).2.2.2.2.1 (ix2 r e) = gates m c (chan r) e
  acc : ∀ r o, (outsAt0 m c n h).2.2.2.2.2 (ix2 r o) = ∑ e ∈ Finset.range (n + 1), term m c r o e

/-- One expert's term, from scratch buffers that hold the rows and the gates. -/
theorem step_eq (c : Dev nD) (t : Fin cfg0.N) (g : Vec Ideal S128x16 .f32) (x : Vec Ideal S128x2048 .f32)
    (acc : Vec Ideal S128x768 .f32) (hg : ∀ r e, g (ix2 r e) = gates m c (chan r) e)
    (hx : ∀ r l, x (ix2 r l) = Model.norm (xrow m c r) l) (r : Fin 128) (o : Fin 768) :
    k0_pay3 (grid0.coords t) g x (iblk m c 6 t) acc (ix2 r o) = acc (ix2 r o) + term m c r o t.val := by
  have ht : t.val < 16 := lt_of_lt_of_eq t.isLt N_0
  rw [pay_step (grid0.coords t) g x _ acc r o ⟨t.val, ht⟩ (coord t), term, dif_pos ht, hg]
  congr 2
  exact Finset.sum_congr rfl fun l _ => by rw [hx, blk6 m c t ⟨t.val, ht⟩ rfl]

/-- After every grid point the scratch buffers are as `After` says. -/
theorem after_all (c : Dev nD) : ∀ (n : ℕ) (h : n < cfg0.N), After m c n h := by
  intro n
  induction n with
  | zero =>
    intro h
    have h0 : (⟨0, h⟩ : Fin cfg0.N).val % 16 = 0 := rfl
    have h1 : ¬(⟨0, h⟩ : Fin cfg0.N).val % 16 = 15 := by
      show ¬0 % 16 = 15
      decide
    have hrow : ∀ r, (fun l => (iblk m c 0 ⟨0, h⟩ : Vec Ideal S128x2048 .f32) (ix2 r l)) = xrow m c r :=
      fun r => funext fun l => blk0 m c _ r l
    have hxn : ∀ r l, (outsAt0 m c 0 h).2.1 (ix2 r l) = Model.norm (xrow m c r) l := fun r l => by
      rw [show (outsAt0 m c 0 h).2.1 = _ from first_xn m c ⟨0, h⟩ h0 h1, pay_norm, hrow]
    have hg : ∀ r e, (outsAt0 m c 0 h).2.2.2.2.1 (ix2 r e) = gates m c (chan r) e := fun r e => by
      rw [show (outsAt0 m c 0 h).2.2.2.2.1 = _ from first_gates m c ⟨0, h⟩ h0 h1, pay_gates, gates, Model.gate]
      simp only [pay_hidden, blk1, blk2, blk3, blk4, blk5]
    refine ⟨hxn, fun r l => ?_, fun r l => ?_, hg, fun r o => ?_⟩
    · rw [show (outsAt0 m c 0 h).2.2.1 = _ from first_mean m c ⟨0, h⟩ h0 h1, pay_mean, hrow]
    · rw [show (outsAt0 m c 0 h).2.2.2.1 = _ from first_std m c ⟨0, h⟩ h0 h1, pay_dev, hrow]
    · rw [show (outsAt0 m c 0 h).2.2.2.2.2 = _ from first_acc m c ⟨0, h⟩ h0 h1, step_eq m c ⟨0, h⟩ _ _ _ hg hxn, pay_zero,
        zero_add, Finset.sum_range_one]
  | succ n ih =>
    intro h
    have hp : n < cfg0.N := Nat.lt_of_succ_lt h
    have hN : n + 1 < 16 := lt_of_lt_of_eq h N_0
    have ih := ih hp
    have h0 : ¬(⟨n + 1, h⟩ : Fin cfg0.N).val % 16 = 0 := by
      show ¬(n + 1) % 16 = 0
      omega
    obtain ⟨k1, k2, k3, k4⟩ := later_kept m c ⟨n + 1, h⟩ h0
    have k5 := later_acc m c ⟨n + 1, h⟩ h0
    refine ⟨fun r l => ?_, fun r l => ?_, fun r l => ?_, fun r l => ?_, fun r o => ?_⟩
    · exact (congrFun k1 _).trans (ih.xn r l)
    · exact (congrFun k2 _).trans (ih.mean r l)
    · exact (congrFun k3 _).trans (ih.dev r l)
    · exact (congrFun k4 _).trans (ih.gate r l)
    · refine (congrFun k5 _).trans ((step_eq m c ⟨n + 1, h⟩ _ _ _ ih.gate ih.xn r o).trans ?_)
      rw [Finset.sum_range_succ]
      exact congrArg (· + _) (ih.acc r o)

/-- The result block: row `r` holds the head of the experts' mixture plus its channel's bias. -/
def result (c : Dev nD) (r : Fin 128) (o : Fin 720) : EReal :=
  Model.head (fun k => Model.mixOut (gates m c (chan r)) (Model.norm (xrow m c r)) (fun e l => m ((c.tc : Thread nD τ).loc main_arg6) (ix3 e l k))
      + m ((c.tc : Thread nD τ).loc main_arg7) (ix2 (chan r) k))
    (fun i j => m ((c.tc : Thread nD τ).loc main_arg8) (ix2 i j)) (fun j => m ((c.tc : Thread nD τ).loc main_arg9) (ix1 j)) (fun i j => m ((c.tc : Thread nD τ).loc main_arg10) (ix2 i j)) (fun j => m ((c.tc : Thread nD τ).loc main_arg11) (ix1 j))
    (fun i j => m ((c.tc : Thread nD τ).loc main_arg12) (ix2 i j)) (fun j => m ((c.tc : Thread nD τ).loc main_arg13) (ix1 j)) (Model.dev (xrow m c r)) (Model.mean (xrow m c r)) o

/-- The last point stores the result block. -/
theorem last_block (c : Dev nD) (t : Fin cfg0.N) (h1 : t.val % 16 = 15) (r : Fin 128) (o : Fin 720) :
    (outsAt0 m c t.val t.isLt).1 (ix2 r o) = result m c r o := by
  have ht : t.val = 15 := by have := lt_of_lt_of_eq t.isLt N_0; omega
  have h0 : ¬t.val % 16 = 0 := by omega
  have hA := after_all m c t.val t.isLt
  have hB := after_all m c (t.val - 1) (Nat.lt_of_le_of_lt (Nat.sub_le _ _) t.isLt)
  have hacc : ∀ k, (outsAt0 m c t.val t.isLt).2.2.2.2.2 (ix2 r k)
      = Model.mixOut (gates m c (chan r)) (Model.norm (xrow m c r)) (fun e l => m ((c.tc : Thread nD τ).loc main_arg6) (ix3 e l k)) := fun k => by
    rw [hA.acc, ht, Finset.sum_range, Model.mixOut]
    exact Finset.sum_congr rfl fun e _ => by rw [term, dif_pos e.isLt]
  rw [last_out m c t h0 h1, pay_head, result]
  simp only [hacc, hB.dev, hB.mean, blk7, blk8, blk9, blk10, blk11, blk12, blk13]

end Cert.KernelIdeal.Points

end
-- ==== Proof.KernelValue.lean ====
module

public import proofs.«01_k».proof.Proof.KernelPoints

/-! The kernel's result: the block the last grid point writes back, and the reshape and transposition after the region. -/

@[expose] public section

set_option maxRecDepth 16384

noncomputable section

open Idealize.ShloMosaic Idealize.ShloMosaic.TcCoe Idealize.SL.Sem
open scoped BigOperators

namespace Cert.KernelIdeal.Points

open Cert.KernelIdeal Cert.KernelIdeal.Gen

variable (m : (ℓ : Loc nD τ sig) → Buf (Elt Ideal) ℓ) (ρ : Dev nD → PrngReg)

/-- The last grid point. -/
def tLast : Fin cfg0.N := ⟨15, lt_of_lt_of_eq (by decide) N_0.symm⟩

/-- The region's result array holds, at row `r`, the head of row `r`. -/
theorem region_array (c : Dev nD) :
    (dats m 0 c).arrAt 14 cfg0.N = fun j : S128x720.Idx => result m c (j 0) (j 1) := by
  refine (dats m 0 c).arrAt_eq_of_after_last 14 tLast (by decide +kernel) _ fun j => ?_
  blk_simp
  rw [after0_14]
  exact (congrArg _ (eq_ix2 j)).trans (last_block m c tLast rfl (j 0) (j 1))

/-- The row of channel `n` of sample `b`. -/
def row (b : Fin 4) (n : Fin 32) : Fin 128 := ⟨b.val * 32 + n.val, by omega⟩

/-- The array the program returns holds, at sample `b`, coordinate `o`, channel `n`, the head of that channel's row. -/
theorem returned (c : Dev nD) (b : Fin 4) (o : Fin 720) (n : Fin 32) :
    Pipeline.afterTail₀ cfgs (dats m) 0 (V0 m) [hostOps1] c main_v9 (ix3 b o n) = result m c (row b n) o := by
  unfold Pipeline.afterTail₀
  after_reads_at
  exact (congrFun (Pipeline.withArrays_arr (cfgs 0).spec (by decide) c (V0 m c) (fun w => (dats m 0 c).arrAt w (cfgs 0).N) 14) _).trans
    (congrFun (region_array m c) _)

/-- The kernel's run: the array it returns, the heads of the rows, and the arguments unchanged. -/
theorem run : θ_run defs (onTc (τ := τ) (main (F := Ideal))) ⟨m, fun _ => 0, ρ⟩ (fun r => ∀ c : Dev nD,
      r.2.mem ((c.tc : Thread nD τ).loc main_v9)
        = (fun j : S4x720x32.Idx => result m c (row (j 0) (j 2)) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ⟨?_, h.2 c⟩) (θ_run_and (run_main m ρ) (unchanged m ρ))
  refine ((h.1 c).2 main_v9 (Pipeline.mem_restRefs_of main_v9 (by decide) (by decide))).trans ?_
  funext j
  exact (congrArg _ (eq_ix3 j)).trans (returned m c (j 0) (j 1) (j 2))

end Cert.KernelIdeal.Points

end
-- ==== Proof.RefStages.lean ====
module

public import proofs.«01_k».proof.Proof.Gen.ReferenceIdeal.Read
public import proofs.«01_k».proof.Proof.Model
public import Idealize.ShloMosaic.Lib.Pointwise

/-! The reference's stages, read at an index and stated by the row functions of `Model`. -/

@[expose] public section

set_option maxRecDepth 16384

noncomputable section

open Idealize.ShloMosaic Idealize.ShloMosaic.TcCoe Idealize.SL.Sem
open scoped BigOperators

namespace Cert.ReferenceIdeal.Stages

open Cert.ReferenceIdeal Cert.ReferenceIdeal.Gen Cert.ReferenceIdeal.Read

variable (x0 : Vec Ideal S4x2048x32 .f32) (x1 : Vec Ideal S32x64 .f32) (x2 : Vec Ideal S64x128 .f32)
  (x3 : Vec Ideal S128 .f32) (x4 : Vec Ideal S128x16 .f32) (x5 : Vec Ideal S16 .f32)
  (x6 : Vec Ideal S16x2048x768 .f32) (x7 : Vec Ideal S32x768 .f32) (x8 : Vec Ideal S768x768 .f32)
  (x9 : Vec Ideal S768 .f32) (x10 : Vec Ideal S768x768 .f32) (x11 : Vec Ideal S768 .f32)
  (x12 : Vec Ideal S768x720 .f32) (x13 : Vec Ideal S720 .f32)

/-- The means. -/
theorem mean_at (b : Fin 4) (n : Fin 32) :
    val_main_v3 (F := Ideal) x0 (ix3 b 0 n) = Model.mean fun l => x0 (ix3 b l n) := by
  pointwise [val_main_v3, val_main_v2, val_main_v1, val_main_v0, val_main_cst, val_main_cst_0]
  rfl

/-- The deviations. -/
theorem dev_at (b : Fin 4) (n : Fin 32) :
    val_main_v6 (F := Ideal) x0 (ix3 b 0 n) = Model.dev fun l => x0 (ix3 b l n) := by
  pointwise [val_main_v6, val_main_v5, val_main_cst_1, val_main_v4, val_main_call0_v0, val_main_call0_call0_call0_v1,
    val_main_call0_call0_call0_v0, val_main_call0_call0_cst_4, val_main_call0_call0_v13, val_main_call0_call0_cst_3,
    val_main_call0_call0_v12, val_main_call0_call0_v11, val_main_call0_call0_v10, val_main_call0_call0_v9,
    val_main_call0_call0_cst_2, val_main_call0_call0_v8, val_main_call0_call0_cst_1, val_main_call0_call0_v7,
    val_main_call0_call0_v6, val_main_call0_call0_v5, val_main_call0_call0_v4, val_main_call0_call0_v3,
    val_main_call0_call0_v2, val_main_call0_call0_cst_0, val_main_call0_call0_v1, val_main_call0_call0_v0,
    val_main_call0_call0_cst, val_main_c]
  have h7 : Ideal.ofBits FTy.f32 0x45000000#32 - (FloatOps.sitofp (F := Ideal) FTy.f32 1#32 : EReal)
      = Ideal.ofBits FTy.f32 0x44FFE000#32 := by
    rw [Model.c2048, Model.c2047]
    show ((2048 : ℝ) : EReal) - (((1#32 : BitVec 32).toInt : ℝ) : EReal) = _
    rw [← EReal.coe_sub]
    norm_num
  have hpos : (0 : EReal) < Ideal.ofBits FTy.f32 0x44FFE000#32 := by
    rw [Model.c2047]
    exact_mod_cast (by norm_num : (0 : ℝ) < 2047)
  simp only [h7, hpos, if_true]
  rfl

/-- The standardised series. -/
theorem norm_at (b : Fin 4) (l : Fin 2048) (n : Fin 32) :
    val_main_v10 (F := Ideal) x0 (ix3 b l n) = Model.norm (fun l => x0 (ix3 b l n)) l := by
  pointwise [val_main_v10, val_main_v9, val_main_v8, val_main_v7]
  rw [mean_at, dev_at]
  rfl

/-- The router's logits. -/
theorem logit_at (n : Fin 32) (e : Fin 16) :
    val_main_v20 (F := Ideal) x1 x2 x3 x4 x5 (ix2 n e)
      = Model.dense (Model.relu (fun i => x1 (ix2 n i)) (fun i k => x2 (ix2 i k)) fun k => x3 (ix1 k))
          (fun k e => x4 (ix2 k e)) (fun e => x5 (ix1 e)) e := by
  pointwise [val_main_v20, val_main_v19, val_main_v18, val_main_v17, val_main_v16, val_main_call1_v0, val_main_call1_cst,
    val_main_v15, val_main_v14, val_main_v13, val_main_v12]
  rfl

/-- The gates. -/
theorem gate_at (n : Fin 32) (e : Fin 16) :
    val_main_v31 (F := Ideal) x1 x2 x3 x4 x5 (ix2 n e)
      = Model.gate (fun i => x1 (ix2 n i)) (fun i k => x2 (ix2 i k)) (fun k => x3 (ix1 k)) (fun k e => x4 (ix2 k e))
          (fun e => x5 (ix1 e)) e := by
  pointwise [val_main_v31, val_main_v30, val_main_v29, val_main_v28, val_main_cst_4, val_main_v27, val_main_v26,
    val_main_v25, val_main_v24, val_main_v23, val_main_v22, val_main_cst_3, val_main_v21, val_main_cst_2]
  simp only [logit_at]
  have hb : ∀ y : EReal, max (Ideal.ofBits FTy.f32 0xFF800000#32) y = y := fun y => by
    rw [Model.cBot]; exact max_eq_right bot_le
  simp only [hb]
  simp only [Model.gate, Model.soft, Model.top]

/-- The embeddings: the mixed weights applied to the standardised row, plus the bias. -/
theorem emb_at (b : Fin 4) (n : Fin 32) (o : Fin 768) :
    val_main_v37 (F := Ideal) x0 x1 x2 x3 x4 x5 x6 x7 (ix3 b n o)
      = Model.mixIn (Model.gate (fun i => x1 (ix2 n i)) (fun i k => x2 (ix2 i k)) (fun k => x3 (ix1 k))
          (fun k e => x4 (ix2 k e)) (fun e => x5 (ix1 e))) (Model.norm fun l => x0 (ix3 b l n))
          (fun e l => x6 (ix3 e l o)) + x7 (ix2 n o) := by
  pointwise [val_main_v37, val_main_v36, val_main_v35, val_main_v34, val_main_v33, val_main_v32, val_main_v11]
  simp only [gate_at, norm_at]
  rfl

/-- The result. -/
theorem result_at (b : Fin 4) (o : Fin 720) (n : Fin 32) :
    val_main_v56 (F := Ideal) x0 x1 x2 x3 x4 x5 x6 x7 x8 x9 x10 x11 x12 x13 (ix3 b o n)
      = Model.head (fun k => Model.mixIn (Model.gate (fun i => x1 (ix2 n i)) (fun i k => x2 (ix2 i k))
          (fun k => x3 (ix1 k)) (fun k e => x4 (ix2 k e)) (fun e => x5 (ix1 e))) (Model.norm fun l => x0 (ix3 b l n))
          (fun e l => x6 (ix3 e l k)) + x7 (ix2 n k)) (fun i j => x8 (ix2 i j)) (fun j => x9 (ix1 j))
          (fun i j => x10 (ix2 i j)) (fun j => x11 (ix1 j)) (fun i j => x12 (ix2 i j)) (fun j => x13 (ix1 j))
          (Model.dev fun l => x0 (ix3 b l n)) (Model.mean fun l => x0 (ix3 b l n)) o := by
  pointwise [val_main_v56, val_main_v55, val_main_v54, val_main_v53, val_main_v52, val_main_v51, val_main_v50,
    val_main_v49, val_main_v48, val_main_v47, val_main_v46, val_main_v45, val_main_v44, val_main_v43, val_main_v42,
    val_main_call2_v0, val_main_call2_cst, val_main_v41, val_main_v40, val_main_v39, val_main_v38]
  simp only [emb_at, dev_at, mean_at]
  rfl

end Cert.ReferenceIdeal.Stages

end
-- ==== Proof.Equal.lean ====
module

public import proofs.«01_k».proof.Proof.KernelValue
public import proofs.«01_k».proof.Proof.RefStages
public import proofs.«01_k».proof.Proof.Gen.Pre_finite_weights
public import proofs.«01_k».proof.Defs

/-!
The precondition read entry by entry, and the equality of the kernel's row value and the reference's: with real gates,
real standardised rows and real experts' weights the experts may be mixed before or after the product.
-/

@[expose] public section

set_option maxRecDepth 16384

noncomputable section

open Idealize.ShloMosaic Idealize.ShloMosaic.TcCoe Idealize.SL.Sem
open scoped BigOperators

namespace Cert.Equal

open Cert.KernelIdeal.Points Cert.KernelIdeal.Gen

/-- An extended real whose absolute value is below infinity is a real number. -/
theorem real_of_abs {x : EReal} (h : BitVec.ofBool (decide (max x (-x) < Ideal.ofBits .f32 0x7F800000#32)) = 1#1) :
    Model.Real' x := by
  rw [Model.cTop] at h
  have hlt : max x (-x) < ⊤ := by
    by_contra hn
    rw [decide_eq_false hn] at h
    exact absurd h (by decide)
  rw [max_lt_iff] at hlt
  refine Model.real_of_ne hlt.1.ne fun hb => ?_
  rw [hb, EReal.neg_bot] at hlt
  exact lt_irrefl _ hlt.2

/-- An array whose absolute values compare below the broadcast infinity has real entries. -/
theorem real_entries {s : Shape} (h : Cert.Pre_finite_weights.S_.BroadcastsInDim s (![] : Fin 0 → Fin s.rank))
    (a : FVec Ideal s .f32)
    (hp : (cmpf .olt (Host.absf a)
      (broadcastInDim s ![] h (constant (F := Ideal) Cert.Pre_finite_weights.S_ .f32 0x7F800000#32)) : IVec s 1) = fun _ => 1#1)
    (i : s.Idx) : Model.Real' (a i) :=
  real_of_abs (congrFun hp i)

variable (m : (ℓ : Loc Cert.KernelIdeal.nD Cert.KernelIdeal.τ Cert.KernelIdeal.sig) → Buf (Elt Ideal) ℓ)

/-- Row `b * 32 + n` is channel `n`. -/
theorem chan_row (b : Fin 4) (n : Fin 32) : chan (row b n) = n := Fin.ext (by simp only [chan, row]; omega)

/-- Row `b * 32 + n` is of sample `b`. -/
theorem samp_row (b : Fin 4) (n : Fin 32) : samp (row b n) = b := Fin.ext (by simp only [samp, row]; omega)

/-- Under the precondition the kernel's mixture, the experts outside, is the reference's, the experts inside. -/
theorem mix_eq (hpre : Cert.Pre_KernelIdeal_finite_weights m) (c : Dev Cert.KernelIdeal.nD) (n : Fin 32)
    (r : Fin 2048 → EReal) (k : Fin 768) :
    Model.mixOut (gates m c n) (Model.norm r) (fun e l => m ((c.tc : Thread Cert.KernelIdeal.nD Cert.KernelIdeal.τ).loc Cert.KernelIdeal.main_arg6) (ix3 e l k))
      = Model.mixIn (gates m c n) (Model.norm r) (fun e l => m ((c.tc : Thread Cert.KernelIdeal.nD Cert.KernelIdeal.τ).loc Cert.KernelIdeal.main_arg6) (ix3 e l k)) := by
  obtain ⟨h1, h2, h3, h4, h5, h6⟩ := hpre c
  exact Model.mixOut_eq_mixIn
    (Model.gate_real (fun i => real_entries _ _ h1 _) (fun i j => real_entries _ _ h2 _) (fun j => real_entries _ _ h3 _)
      (fun i j => real_entries _ _ h4 _) (fun j => real_entries _ _ h5 _))
    (Model.norm_real r) (fun e l => real_entries _ _ h6 _)

/-- Under the precondition the kernel's value at sample `b`, coordinate `o`, channel `n` is the reference's of the same
    arguments. -/
theorem result_eq (hpre : Cert.Pre_KernelIdeal_finite_weights m) (c : Dev Cert.KernelIdeal.nD) (b : Fin 4) (o : Fin 720)
    (n : Fin 32) :
    Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) (ix3 b o n)
      = result m c (row b n) o := by
  rw [Cert.ReferenceIdeal.Stages.result_at]
  have hx : xrow m c (row b n) = fun l => m ((c.tc : Thread Cert.KernelIdeal.nD Cert.KernelIdeal.τ).loc Cert.KernelIdeal.main_arg0) (ix3 b l n) := by
    unfold xrow
    rw [chan_row, samp_row]
  unfold result
  rw [hx, chan_row]
  have hm := funext fun k => congrArg (· + m ((c.tc : Thread Cert.KernelIdeal.nD Cert.KernelIdeal.τ).loc Cert.KernelIdeal.main_arg7) (ix2 n k))
    (mix_eq m hpre c n (fun l => m ((c.tc : Thread Cert.KernelIdeal.nD Cert.KernelIdeal.τ).loc Cert.KernelIdeal.main_arg0) (ix3 b l n)) k).symm
  exact congrArg (fun emb => Model.head emb _ _ _ _ _ _ _ _ o) hm

end Cert.Equal

end
-- ==== Proof.lean ====
/- The five claims put together: the frames, the preservation, and the equality of the kernel's and the reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_weights
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The reference runs from every memory, leaves its arguments unchanged and ends with every semaphore at zero. -/
theorem referenceFrame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments and satisfy the precondition, the kernel and the reference return the same
    array. -/
theorem algebraic : Cert.algebraic_KernelIdeal_ReferenceIdeal_pre_finite_weights := by
  intro m ρ m' ρ' hpre hagree
  refine ⟨_, Cert.KernelIdeal.Points.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v56_eq]
  obtain ⟨a0, a1, a2, a3, a4, a5, a6, a7, a8, a9, a10, a11, a12, a13⟩ := hagree c
  rw [a0, a1, a2, a3, a4, a5, a6, a7, a8, a9, a10, a11, a12, a13]
  funext j
  exact (congrArg _ (ValueIdx.eq_ix3 j)).trans (Cert.Equal.result_eq m hpre c (j 0) (j 1) (j 2))

/-- Every claim holds. -/
theorem claim : Cert.Claim := ⟨Cert.Kernel.Gen.facts, Cert.KernelIdeal.Gen.facts, Cert.ReferenceIdeal.Gen.facts,
  Cert.Pre_finite_weights.Gen.facts,
  fun m ρ _ => Cert.Kernel.Gen.frame m ρ, fun m ρ _ => Cert.KernelIdeal.Gen.frame m ρ,
  fun m ρ _ => Cert.KernelIdeal.Gen.frame m ρ, referenceFrame, fun m ρ _ => referenceFrame m ρ trivial, trivial,
  algebraic⟩

end Cert.Proof

end
